-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S4x2048 : Shape := ⟨2, ![4, 2048]⟩
abbrev S129 : Shape := ⟨1, ![129]⟩
abbrev S4095 : Shape := ⟨1, ![4095]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : IVec S4x2048 32) (main_arg1 : FVec F S129 .f32) (main_arg2 : FVec F S4095 .f32) : IVec S4x2048 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  main_v1
-- ==== Kernel.lean ====
abbrev S4x2048 : Shape := ⟨2, ![4, 2048]⟩
abbrev S129 : Shape := ⟨1, ![129]⟩
abbrev S4095 : Shape := ⟨1, ![4095]⟩
abbrev S4x2047 : Shape := ⟨2, ![4, 2047]⟩
abbrev S4x1 : Shape := ⟨2, ![4, 1]⟩
abbrev S8x1x1024 : Shape := ⟨3, ![8, 1, 1024]⟩
abbrev S4x1x2048 : Shape := ⟨3, ![4, 1, 2048]⟩
abbrev S128 : Shape := ⟨1, ![128]⟩
abbrev S1x128 : Shape := ⟨2, ![1, 128]⟩
abbrev S_ : Shape := ⟨0, ![]⟩
abbrev S1 : Shape := ⟨1, ![1]⟩
abbrev S4096 : Shape := ⟨1, ![4096]⟩
abbrev S1x4096 : Shape := ⟨2, ![1, 4096]⟩
abbrev S4x2048x2048 : Shape := ⟨3, ![4, 2048, 2048]⟩
abbrev S1x1x1024 : Shape := ⟨3, ![1, 1, 1024]⟩
abbrev S1x1x2048 : Shape := ⟨3, ![1, 1, 2048]⟩
abbrev S1x1024x2048 : Shape := ⟨3, ![1, 1024, 2048]⟩
abbrev S128x4096 : Shape := ⟨2, ![128, 4096]⟩
abbrev S128x128 : Shape := ⟨2, ![128, 128]⟩
abbrev S128x128x1 : Shape := ⟨3, ![128, 128, 1]⟩
abbrev S1x2048 : Shape := ⟨2, ![1, 2048]⟩
abbrev S1x1x128 : Shape := ⟨3, ![1, 1, 128]⟩
abbrev S128x1 : Shape := ⟨2, ![128, 1]⟩
abbrev S128x2048 : Shape := ⟨2, ![128, 2048]⟩
abbrev S1x128x2048 : Shape := ⟨3, ![1, 128, 2048]⟩

abbrev nBuf : Space → Nat
  | .hbm => 17
  | .vmem => 9
  | .smem => 0
  | _ => 0

abbrev bufTy : (tb : Table) → Fin (tcTables nBuf tb) → BufTy
  | .hbm, ⟨0, _⟩ => ⟨S4x2048, .i32⟩
  | .hbm, ⟨1, _⟩ => ⟨S129, .f32⟩
  | .hbm, ⟨2, _⟩ => ⟨S4095, .f32⟩
  | .hbm, ⟨3, _⟩ => ⟨S4x2047, .i32⟩
  | .hbm, ⟨4, _⟩ => ⟨S4x1, .i32⟩
  | .hbm, ⟨5, _⟩ => ⟨S4x2048, .i32⟩
  | .hbm, ⟨6, _⟩ => ⟨S8x1x1024, .i32⟩
  | .hbm, ⟨7, _⟩ => ⟨S8x1x1024, .f32⟩
  | .hbm, ⟨8, _⟩ => ⟨S4x1x2048, .i32⟩
  | .hbm, ⟨9, _⟩ => ⟨S4x1x2048, .f32⟩
  | .hbm, ⟨10, _⟩ => ⟨S128, .f32⟩
  | .hbm, ⟨11, _⟩ => ⟨S1x128, .f32⟩
  | .hbm, ⟨12, _⟩ => ⟨S_, .f32⟩
  | .hbm, ⟨13, _⟩ => ⟨S1, .f32⟩
  | .hbm, ⟨14, _⟩ => ⟨S4096, .f32⟩
  | .hbm, ⟨15, _⟩ => ⟨S1x4096, .f32⟩
  | .hbm, ⟨16, _⟩ => ⟨S4x2048x2048, .f32⟩
  | .local _ .vmem, ⟨0, _⟩ => ⟨S1x1x1024, .f32⟩
  | .local _ .vmem, ⟨1, _⟩ => ⟨S1x1x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x128, .f32⟩
  | .local _ .vmem, ⟨5, _⟩ => ⟨S1x4096, .f32⟩
  | .local _ .vmem, ⟨6, _⟩ => ⟨S1x1024x2048, .f32⟩
  | .local _ .vmem, ⟨7, _⟩ => ⟨S1x1024x2048, .f32⟩
  | .local _ .vmem, ⟨8, _⟩ => ⟨S128x4096, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_cst : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 2], ![false, false]⟩

def k0_off1 (i : grid0.Coords) (c0_i32_41 : BitVec 32) : Fin 2 → Nat :=
  let c0_43 : Index := 0#32
  let c15_i32 : BitVec 32 := 15#32
  let arg1 : BitVec 32 := BitVec.ofNat 32 (i 1).val
  let c8_i32 : BitVec 32 := 8#32
  let v169 : BitVec 32 := Scalar.muli arg1 c8_i32
  let v170 : BitVec 32 := Scalar.addi v169 c0_i32_41
  let v171 : BitVec 32 := Scalar.subi c15_i32 v170
  let c128_i32_42 : BitVec 32 := 128#32
  let v172 : BitVec 32 := Scalar.muli v171 c128_i32_42
  let v173 : Index := Scalar.indexCast v172
  ![0, v173.toNat]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048 : Shape := ⟨2, ![4, 2048]⟩
abbrev S129 : Shape := ⟨1, ![129]⟩
abbrev S4095 : Shape := ⟨1, ![4095]⟩
abbrev S_ : Shape := ⟨0, ![]⟩
abbrev S6143 : Shape := ⟨1, ![6143]⟩
abbrev S1x6143 : Shape := ⟨2, ![1, 6143]⟩
abbrev S2048x6143 : Shape := ⟨2, ![2048, 6143]⟩
abbrev S12580864 : Shape := ⟨1, ![12580864]⟩
abbrev S12578816 : Shape := ⟨1, ![12578816]⟩
abbrev S2048x6142 : Shape := ⟨2, ![2048, 6142]⟩
abbrev S2048x2048 : Shape := ⟨2, ![2048, 2048]⟩
abbrev S1x2048x2048 : Shape := ⟨3, ![1, 2048, 2048]⟩
abbrev S4x1 : Shape := ⟨2, ![4, 1]⟩
abbrev S4x2049 : Shape := ⟨2, ![4, 2049]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S16777216 : Shape := ⟨1, ![16777216]⟩
abbrev S16777216x1 : Shape := ⟨2, ![16777216, 1]⟩
abbrev S1 : Shape := ⟨1, ![1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S129, .f32⟩
  | .hbm, ⟨2, _⟩ => ⟨S4095, .f32⟩
  | .hbm, ⟨3, _⟩ => ⟨S_, .i32⟩
  | .hbm, ⟨4, _⟩ => ⟨S_, .f32⟩
  | .hbm, ⟨5, _⟩ => ⟨S6143, .f32⟩
  | .hbm, ⟨6, _⟩ => ⟨S1x6143, .f32⟩
  | .hbm, ⟨7, _⟩ => ⟨S2048x6143, .f32⟩
  | .hbm, ⟨8, _⟩ => ⟨S12580864, .f32⟩
  | .hbm, ⟨9, _⟩ => ⟨S12578816, .f32⟩
  | .hbm, ⟨10, _⟩ => ⟨S2048x6142, .f32⟩
  | .hbm, ⟨11, _⟩ => ⟨S2048x2048, .f32⟩
  | .hbm, ⟨12, _⟩ => ⟨S1x2048x2048, .f32⟩
  | .hbm, ⟨13, _⟩ => ⟨S4x1, .i32⟩
  | .hbm, ⟨14, _⟩ => ⟨S4x2049, .i32⟩
  | .hbm, ⟨15, _⟩ => ⟨S4x2048, .i32⟩
  | .hbm, ⟨16, _⟩ => ⟨S4x2048x1, .i32⟩
  | .hbm, ⟨17, _⟩ => ⟨S4x2048, .i32⟩
  | .hbm, ⟨18, _⟩ => ⟨S4x1x2048, .i32⟩
  | .hbm, ⟨19, _⟩ => ⟨S4x2048x2048, .i32⟩
  | .hbm, ⟨20, _⟩ => ⟨S4x2048x2048, .i32⟩
  | .hbm, ⟨21, _⟩ => ⟨S4x2048x2048, .i32⟩
  | .hbm, ⟨22, _⟩ => ⟨S4x2048x2048, .i32⟩
  | .hbm, ⟨23, _⟩ => ⟨S_, .i32⟩
  | .hbm, ⟨24, _⟩ => ⟨S4x2048x2048, .i32⟩
  | .hbm, ⟨25, _⟩ => ⟨S4x2048x2048, .i32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S4x2048x2048, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4x2048x2048, .i32⟩
  | .hbm, ⟨36, _⟩ => ⟨S4x2048x2048, .i32⟩
  | .hbm, ⟨37, _⟩ => ⟨S_, .i32⟩
  | .hbm, ⟨38, _⟩ => ⟨S4x2048x2048, .i32⟩
  | .hbm, ⟨39, _⟩ => ⟨S4x2048x2048, .i32⟩
  | .hbm, ⟨40, _⟩ => ⟨S16777216, .i32⟩
  | .hbm, ⟨41, _⟩ => ⟨S_, .i32⟩
  | .hbm, ⟨42, _⟩ => ⟨S16777216, .i32⟩
  | .hbm, ⟨43, _⟩ => ⟨S16777216, .i1⟩
  | .hbm, ⟨44, _⟩ => ⟨S_, .i32⟩
  | .hbm, ⟨45, _⟩ => ⟨S16777216, .i32⟩
  | .hbm, ⟨46, _⟩ => ⟨S16777216, .i32⟩
  | .hbm, ⟨47, _⟩ => ⟨S16777216, .i32⟩
  | .hbm, ⟨48, _⟩ => ⟨S16777216x1, .i32⟩
  | .hbm, ⟨49, _⟩ => ⟨S1, .i32⟩
  | .hbm, ⟨50, _⟩ => ⟨S_, .i32⟩
  | .hbm, ⟨51, _⟩ => ⟨S16777216x1, .i32⟩
  | .hbm, ⟨52, _⟩ => ⟨S16777216x1, .i1⟩
  | .hbm, ⟨53, _⟩ => ⟨S1x1, .i32⟩
  | .hbm, ⟨54, _⟩ => ⟨S16777216x1, .i32⟩
  | .hbm, ⟨55, _⟩ => ⟨S16777216x1, .i1⟩
  | .hbm, ⟨56, _⟩ => ⟨S16777216x1, .i1⟩
  | .hbm, ⟨57, _⟩ => ⟨S_, .i1⟩
  | .hbm, ⟨58, _⟩ => ⟨S16777216, .i1⟩
  | .hbm, ⟨59, _⟩ => ⟨S16777216, .f32⟩
  | .hbm, ⟨60, _⟩ => ⟨S_, .f32⟩
  | .hbm, ⟨61, _⟩ => ⟨S16777216, .f32⟩
  | .hbm, ⟨62, _⟩ => ⟨S16777216, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_c_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v25 : Ref sig .tc := ⟨.hbm, 39, rfl⟩
abbrev main_v26 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Bias

open Cert.KernelIdeal.Gen
open Idealize.ShloMosaic Idealize.ShloMosaic.TcCoe Idealize.ShloMosaic.Tactic

variable {F : FTy → Type} [FloatOps F]

/-! ## One element of the result, written out -/

/-- The bucket of a pair of times: the integer part of `log (max |s - t| 1) / 0.301`. -/
def bucket (s t : F .f32) : BitVec 32 :=
  FloatOps.fptosi 32 (FloatOps.divf (FloatOps.log (FloatOps.maximumf (FloatOps.absf (FloatOps.subf s t)) (FloatOps.ofBits .f32 0x3F800000#32)))
    (FloatOps.ofBits .f32 0x3E9A1CAC#32))

/-- A lane number as the lookup reads it: 128 is added to a negative one. -/
def lane (b : BitVec 32) : BitVec 32 := Scalar.select (IntOp.cmpi .slt b 0#32) (IntOp.addi b 128#32) b

/-- The table of 128 lanes looked up at a lane number, taken modulo 128. -/
def lookup (tab : Vec F S1x128 .f32) (b : BitVec 32) : F .f32 :=
  tab (ix2 (0 : Fin 1) (⟨(lane b).toNat % 128, Nat.mod_lt _ (by decide)⟩ : Fin 128))

/-! ## One band of 128 rows -/

/-- One tile of the lookup: 128 rows of 128 bucket numbers, each the lane its row of the table is read at. -/
def tileLookup (tab : FVec F S128x128 .f32) (q : IVec S128x128 32) : FVec F S128x128 .f32 :=
  dynamicGather 1 tab (shapeCast S128x128 (shapeCast S128x128x1
    (select (cmpi .slt q (broadcast S128x128 0#32)) (addi q (broadcast S128x128 128#32)) q) shapeCasts_S128x128_S128x128x1)
    shapeCasts_S128x128x1_S128x128)

theorem slices_tile (n : Fin 16) : S128x2048.Slices ![0, 128 * n.val] S128x128 := by
  revert n; decide

/-- Tile `n` of one band's looked-up values. -/
def tile (times : Vec F S1x1x2048 .f32) (tab : Vec F S1x128 .f32) (rows : Vec F S1x1x128 .f32) (n : Fin 16) : FVec F S128x128 .f32 :=
  tileLookup (k0_pay79 tab) (extractStridedSlice S128x128 ![0, 128 * n.val] (k0_pay80 times rows) (slices_tile n))

/-- The looked-up values of one band: 16 tiles side by side. -/
def lookups (times : Vec F S1x1x2048 .f32) (tab : Vec F S1x128 .f32) (rows : Vec F S1x1x128 .f32) : FVec F S128x2048 .f32 :=
  concatenate S128x2048 1 [⟨S128x128, tile times tab rows 0⟩, ⟨S128x128, tile times tab rows 1⟩, ⟨S128x128, tile times tab rows 2⟩, ⟨S128x128, tile times tab rows 3⟩, ⟨S128x128, tile times tab rows 4⟩, ⟨S128x128, tile times tab rows 5⟩, ⟨S128x128, tile times tab rows 6⟩, ⟨S128x128, tile times tab rows 7⟩, ⟨S128x128, tile times tab rows 8⟩, ⟨S128x128, tile times tab rows 9⟩, ⟨S128x128, tile times tab rows 10⟩, ⟨S128x128, tile times tab rows 11⟩, ⟨S128x128, tile times tab rows 12⟩, ⟨S128x128, tile times tab rows 13⟩, ⟨S128x128, tile times tab rows 14⟩, ⟨S128x128, tile times tab rows 15⟩]
    concatenates_S128x128_S128x128_S128x128_S128x128_S128x128_S128x128_S128x128_S128x128_S128x128_S128x128_S128x128_S128x128_S128x128_S128x128_S128x128_S128x128_S128x2048_d1

/-- One band of the result: the looked-up values, and the window of the position table added. -/
def band (times : Vec F S1x1x2048 .f32) (tab : Vec F S1x128 .f32) (rows : Vec F S1x1x128 .f32) (pos : Vec F S128x2048 .f32) :
    FVec F S1x128x2048 .f32 :=
  shapeCast S1x128x2048 (addf (lookups times tab rows) pos) shapeCasts_S128x2048_S1x128x2048

/-- The bucket numbers of a band at an index. -/
theorem buckets_apply (times : Vec F S1x1x2048 .f32) (rows : Vec F S1x1x128 .f32) (r : Fin 128) (c : Fin 2048) :
    k0_pay80 times rows (ix2 r c) = bucket (rows (ix3 (0 : Fin 1) (0 : Fin 1) r)) (times (ix3 (0 : Fin 1) (0 : Fin 1) c)) := by
  unfold bucket
  pointwise [k0_pay80, k0_pay78]

theorem tileLookup_apply (tab : Vec F S1x128 .f32) (q : IVec S128x128 32) (r c : Fin 128) :
    tileLookup (k0_pay79 tab) q (ix2 r c) = lookup tab (q (ix2 r c)) := by
  unfold lookup lane
  pointwise [tileLookup, k0_pay79]

/-- Sixteen tiles side by side, read at a column: the tile of its block of 128, at its place in the block. -/
theorem tiles_apply {α : Type} (f : Fin 16 → (S128x128.Idx → α))
    (h : Shape.Concatenates (([⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩, ⟨S128x128, f 8⟩, ⟨S128x128, f 9⟩, ⟨S128x128, f 10⟩, ⟨S128x128, f 11⟩, ⟨S128x128, f 12⟩, ⟨S128x128, f 13⟩, ⟨S128x128, f 14⟩, ⟨S128x128, f 15⟩] : List ((s : Shape) × (s.Idx → α))).map (·.1)) S128x2048 1)
    (r : Fin 128) (c : Fin 2048) :
    concatenate S128x2048 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩, ⟨S128x128, f 8⟩, ⟨S128x128, f 9⟩, ⟨S128x128, f 10⟩, ⟨S128x128, f 11⟩, ⟨S128x128, f 12⟩, ⟨S128x128, f 13⟩, ⟨S128x128, f 14⟩, ⟨S128x128, f 15⟩] h (ix2 r c)
      = f ⟨c.val / 128, by omega⟩ (ix2 r ⟨c.val % 128, Nat.mod_lt _ (by decide)⟩) :=
  concatenate_ofFn_apply (t := S128x2048) (s₁ := S128x128) (1 : Fin 2) f h rfl 128 rfl (ix2 r c) (⟨c.val / 128, by omega⟩ : Fin 16) rfl
    (ix2 r (⟨c.val % 128, Nat.mod_lt _ (by decide)⟩ : Fin 128)) rfl (by intro b hb; fin_cases b <;> first | rfl | exact absurd rfl hb)

/-- The looked-up values of one band at an index. -/
theorem lookups_apply (times : Vec F S1x1x2048 .f32) (tab : Vec F S1x128 .f32) (rows : Vec F S1x1x128 .f32) (r : Fin 128) (c : Fin 2048) :
    lookups times tab rows (ix2 r c)
      = lookup tab (bucket (rows (ix3 (0 : Fin 1) (0 : Fin 1) r)) (times (ix3 (0 : Fin 1) (0 : Fin 1) c))) := by
  refine (tiles_apply (tile times tab rows) _ r c).trans ?_
  rw [tile, tileLookup_apply, ← buckets_apply]
  congr 2
  pointwise
  exact congrArg _ (congrArg _ (Fin.ext (Nat.div_add_mod _ _)))

/-- One band at an index: the bucket of the row's time and the column's looked up, and the position window's element added. -/
theorem band_apply (times : Vec F S1x1x2048 .f32) (tab : Vec F S1x128 .f32) (rows : Vec F S1x1x128 .f32) (pos : Vec F S128x2048 .f32)
    (r : Fin 128) (c : Fin 2048) :
    band times tab rows pos (ix3 (0 : Fin 1) r c)
      = FloatOps.addf (lookup tab (bucket (rows (ix3 (0 : Fin 1) (0 : Fin 1) r)) (times (ix3 (0 : Fin 1) (0 : Fin 1) c)))) (pos (ix2 r c)) := by
  unfold band
  pointwise [lookups_apply]

theorem position_word (r c : Fin 128) : IntOp.addi (IntOp.subi (BitVec.ofNat 32 c.val) (BitVec.ofNat 32 r.val)) 127#32 = BitVec.ofNat 32 (c.val + 127 - r.val) := by
  unfold IntOp.addi IntOp.subi
  apply BitVec.eq_of_toNat_eq
  simp only [BitVec.toNat_add, BitVec.toNat_sub, BitVec.toNat_ofNat]
  omega

/-- One tile of the position band: the table's element `c - r + 127` places on, in the second of the two blocks of 128 read
    when that is past the first. -/
theorem tile_apply (l0 l1 : Vec F S1x128 .f32) (r c : Fin 128) :
    k0_pay6 l0 l1 (ix2 r c)
      = if h : 128 ≤ c.val + 127 - r.val then l1 (ix2 (0 : Fin 1) ⟨c.val + 127 - r.val - 128, by omega⟩)
        else l0 (ix2 (0 : Fin 1) ⟨c.val + 127 - r.val, by omega⟩) := by
  pointwise [k0_pay6, k0_pay5, k0_pay4, k0_pay3]
  simp only [position_word]
  have small : ∀ k < 128, IntOp.cmpi .slt (BitVec.ofNat 32 k) 0#32 = 0#1 := by
    intro k hk
    rw [show (0#32) = BitVec.ofNat 32 0 from rfl, WordCmp.cmpi_slt_ofNat (by omega) (by omega)]
    simp
  by_cases h : 128 ≤ c.val + 127 - r.val
  · have h1 : IntOp.cmpi .sge (BitVec.ofNat 32 (c.val + 127 - r.val)) 128#32 = 1#1 := by
      rw [WordCmp.cmpi_sge_ofNat (by omega) (by omega)]
      simp [h]
    have h2 : IntOp.subi (BitVec.ofNat 32 (c.val + 127 - r.val)) 128#32 = BitVec.ofNat 32 (c.val + 127 - r.val - 128) := by
      unfold IntOp.subi
      apply BitVec.eq_of_toNat_eq
      simp only [BitVec.toNat_sub, BitVec.toNat_ofNat]
      omega
    rw [dif_pos h]
    simp only [h1, Scalar.select, ↓reduceIte, show ((0#1 : BitVec 1) = 1) = False by decide, show ((1#1 : BitVec 1) = 1) = True by decide, h2, small _ (show c.val + 127 - r.val - 128 < 128 by omega)]
    exact congrArg _ (congrArg _ (Fin.ext (by simp only [BitVec.toNat_ofNat]; omega)))
  · have h1 : IntOp.cmpi .sge (BitVec.ofNat 32 (c.val + 127 - r.val)) 128#32 = 0#1 := by
      rw [WordCmp.cmpi_sge_ofNat (by omega) (by omega)]
      simp [h]
    rw [dif_neg h]
    simp only [h1, Scalar.select, ↓reduceIte, show ((0#1 : BitVec 1) = 1) = False by decide, show ((1#1 : BitVec 1) = 1) = True by decide, small _ (show c.val + 127 - r.val < 128 by omega)]
    exact congrArg _ (congrArg _ (Fin.ext (by simp only [BitVec.toNat_ofNat]; omega)))

/-! ## The output block of a point, and the position band in scratch -/

/-- What the body leaves in the output block at a point of half `n` of the rows: at row `y` and column `x`, the looked-up
    value of the two times and the position table's element `2047 + x - (1024 n + y)`. -/
def outBlk (x0 : Vec F S1x1x1024 .f32) (x1 : Vec F S1x1x2048 .f32) (x2 : Vec F S1x128 .f32) (x3 : Vec F S1x4096 .f32) (n : Fin 2) :
    Vec F S1x1024x2048 .f32 := fun j =>
  FloatOps.addf (lookup x2 (bucket (x0 (ix3 (0 : Fin 1) (0 : Fin 1) (j (1 : Fin 3)))) (x1 (ix3 (0 : Fin 1) (0 : Fin 1) (j (2 : Fin 3))))))
    (x3 (ix2 (0 : Fin 1) ⟨2047 + (j (2 : Fin 3)).val - (1024 * n.val + (j (1 : Fin 3)).val), by
      have : (j (2 : Fin 3)).val < 2048 := (j (2 : Fin 3)).isLt
      omega⟩))

/-- The scratch holds the position band: at row `r` and column `c` of its first 3968 columns, the table's element
    `c + 127 - r`. -/
def BandOK (d : Vec F S128x4096 .f32) (x3 : Vec F S1x4096 .f32) : Prop :=
  ∀ (r : Fin 128) (c : Fin 4096) (_ : c.val < 3968), d (ix2 r c) = x3 (ix2 (0 : Fin 1) ⟨c.val + 127 - r.val, by omega⟩)

/-- The column the body reads the position band from for band `r` of half `i 1`: 128 times `15 - (8 i + r)`. -/
theorem off_eq (i : grid0.Coords) (r : Fin 8) : k0_off1 i (BitVec.ofNat 32 r.val) = ![0, (15 - (8 * (i 1).val + r.val)) * 128] := by
  have h1 : (i 1).val < 2 := (i 1).isLt
  unfold k0_off1
  generalize (i 1).val = n at h1 ⊢
  obtain rfl | rfl : n = 0 ∨ n = 1 := by omega
  all_goals fin_cases r <;> rfl

/-- The first `n` of a family of pieces, the last one first: as a run lists what it stored. -/
def firstPieces {S : Shape} {N : Nat} (p : (n : Nat) → n < N → View.Piece (Elt F) S .f32) : (n : Nat) → n ≤ N → List (View.Piece (Elt F) S .f32)
  | 0, _ => []
  | n + 1, h => p n h :: firstPieces p n (Nat.le_of_succ_le h)

theorem mem_firstPieces {S : Shape} {N : Nat} (p : (n : Nat) → n < N → View.Piece (Elt F) S .f32) (q : View.Piece (Elt F) S .f32) :
    ∀ (n : Nat) (h : n ≤ N), q ∈ firstPieces p n h ↔ ∃ (k : Nat) (hk : k < n), q = p k (Nat.lt_of_lt_of_le hk h)
  | 0, _ => by simp [firstPieces]
  | n + 1, h => by
    rw [firstPieces, List.mem_cons, mem_firstPieces p q n]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.mp hk with hk | rfl
      · exact .inr ⟨k, hk, rfl⟩
      · exact .inl rfl

/-- Writes that each store a block of one function, read at an index some of them covers: the function there. -/
theorem read_pieces {sig' : RefSig} {κ : Kind} {sp : Space} {S : Shape} (v : View sig' κ sp S .f32) (f : v.ty.Contents (Elt F)) {N : Nat}
    (p : (n : Nat) → n < N → View.Piece (Elt F) S .f32) (G : Vec F S .f32) (hp : ∀ n h x, (p n h).2 x = G ((p n h).1.emb x))
    (y : S.Idx) (n : Nat) (h : n < N) (hy : y ∈ (p n h).1.set) :
    v.read (Elt F) (v.writes (Elt F) f (firstPieces p N (Nat.le_refl N))) y = G y := by
  have hc : ∃ q ∈ firstPieces p N (Nat.le_refl N), y ∈ q.1.set := ⟨p n h, (mem_firstPieces p _ N _).mpr ⟨n, h, rfl⟩, hy⟩
  rw [View.read_writes_apply_eq_canon v f y _ hc]
  refine View.canon_apply_of_pieces G _ (fun q hq x => ?_) y hc
  obtain ⟨k, hk, rfl⟩ := (mem_firstPieces p _ N _).mp hq
  exact hp k _ x

theorem inb_band (n : Nat) (h : n < 8) : ∀ a, (![0, 128 * n, 0] : Fin 3 → Nat) a + S1x128x2048.size a ≤ S1x1024x2048.size a := by
  revert n; decide

/-- Band `n` of eight, stored at row `128 n` of a block. -/
def bandPiece (w : Fin 8 → Vec F S1x128x2048 .f32) (n : Nat) (h : n < 8) : View.Piece (Elt F) S1x1024x2048 .f32 :=
  ⟨Rect.unit (s := S1x1024x2048) ![0, 128 * n, 0] S1x128x2048.size (inb_band n h), w ⟨n, h⟩⟩

/-- Eight bands stored at rows 0, 128, …, 896 of a block, each the band of one function of the block's index, leave that
    function. -/
theorem read_bands {sig' : RefSig} {κ : Kind} {sp : Space} (v : View sig' κ sp S1x1024x2048 .f32) (f : v.ty.Contents (Elt F))
    (w : Fin 8 → Vec F S1x128x2048 .f32) (G : Vec F S1x1024x2048 .f32)
    (hw : ∀ (r : Fin 8) (y : Fin 128) (x : Fin 2048), w r (ix3 (0 : Fin 1) y x) = G (ix3 (0 : Fin 1) (⟨128 * r.val + y.val, by omega⟩ : Fin 1024) x)) :
    v.read (Elt F) (v.writes (Elt F) f (firstPieces (bandPiece w) 8 (Nat.le_refl 8))) = G := by
  funext y
  idx_vars y
  refine read_pieces v f (bandPiece w) G (fun n h x => ?_) _ (y1.val / 128) (by omega) ?_
  · dsimp only [bandPiece] at x ⊢
    idx_vars x
    rw [Subsingleton.elim x0 0, hw]
    refine congrArg G (funext fun a => Fin.ext ?_)
    fin_cases a
    · rfl
    · exact congrArg (128 * n + ·) (Nat.one_mul x1.val).symm
    · exact ((Nat.zero_add _).trans (Nat.one_mul x2.val)).symm
  · dsimp only [bandPiece]
    rw [Rect.mem_set_unit]
    intro a
    fin_cases a
    · exact ⟨Nat.zero_le _, by show y0.val < 0 + 1; omega⟩
    · exact ⟨Nat.mul_div_le _ _, by show y1.val < 128 * (y1.val / 128) + 128; omega⟩
    · exact ⟨Nat.zero_le _, by show y2.val < 0 + 2048; omega⟩

theorem inb_tile (n : Nat) (h : n < 31) : ∀ a, (![0, 128 * n] : Fin 2 → Nat) a + S128x128.size a ≤ S128x4096.size a := by
  revert n; decide

/-- Tile `n` of 31, stored at column `128 n` of the scratch. -/
def tilePiece (w : Fin 31 → Vec F S128x128 .f32) (n : Nat) (h : n < 31) : View.Piece (Elt F) S128x4096 .f32 :=
  ⟨Rect.unit (s := S128x4096) ![0, 128 * n] S128x128.size (inb_tile n h), w ⟨n, h⟩⟩

/-- The 31 tiles stored at columns 0, 128, …, 3840 of the scratch, each the tile of one function of the scratch's index,
    leave that function in its first 3968 columns. -/
theorem read_tiles {sig' : RefSig} {κ : Kind} {sp : Space} (v : View sig' κ sp S128x4096 .f32) (f : v.ty.Contents (Elt F))
    (w : Fin 31 → Vec F S128x128 .f32) (G : Vec F S128x4096 .f32)
    (hw : ∀ (n : Fin 31) (y x : Fin 128), w n (ix2 y x) = G (ix2 y (⟨128 * n.val + x.val, by omega⟩ : Fin 4096)))
    (y : Fin 128) (x : Fin 4096) (hx : x.val < 3968) :
    v.read (Elt F) (v.writes (Elt F) f (firstPieces (tilePiece w) 31 (Nat.le_refl 31))) (ix2 y x) = G (ix2 y x) := by
  refine read_pieces v f (tilePiece w) G (fun n h x => ?_) _ (x.val / 128) (by omega) ?_
  · dsimp only [tilePiece] at x ⊢
    idx_vars x
    rw [hw]
    refine congrArg G (funext fun a => Fin.ext ?_)
    fin_cases a
    · exact ((Nat.zero_add _).trans (Nat.one_mul x0.val)).symm
    · exact congrArg (128 * n + ·) (Nat.one_mul x1.val).symm
  · dsimp only [tilePiece]
    rw [Rect.mem_set_unit]
    intro a
    fin_cases a
    · exact ⟨Nat.zero_le _, by show y.val < 0 + 128; omega⟩
    · exact ⟨Nat.mul_div_le _ _, by show x.val < 128 * (x.val / 128) + 128; omega⟩

/-! ## What the eight bands leave, over any buffers -/

theorem inb_rows (n : Nat) (h : n < 8) : ∀ a, (![0, 0, 128 * n] : Fin 3 → Nat) a + S1x1x128.size a ≤ S1x1x1024.size a := by
  revert n; decide

/-- Band `r` of a point, over what its four loads read. -/
def bandAt (i : grid0.Coords) {arg2 : Memref sig .tc .vmem S1x1x1024 .f32} (harg2 : arg2.IsWhole) {arg3 : Memref sig .tc .vmem S1x1x2048 .f32} (harg3 : arg3.IsWhole)
    {arg4 : Memref sig .tc .vmem S1x128 .f32} (harg4 : arg4.IsWhole) (arg7 : Memref sig .tc .vmem S128x4096 .f32)
    (x0 : Vec F S1x1x1024 .f32) (x1 : Vec F S1x1x2048 .f32) (x2 : Vec F S1x128 .f32) (g : arg7.view.ty.Contents (Elt F)) (r : Fin 8) : Vec F S1x128x2048 .f32 :=
  band (arg3.view.readAt (Elt F) (Rect.unit (s := S1x1x2048) ![0, 0, 0] S1x1x2048.size inb_S1x1x2048_S1x1x2048_0_0_0).toLoadRect (harg3.unread x1))
    (arg4.view.readAt (Elt F) (Rect.unit (s := S1x128) ![0, 0] S1x128.size inb_S1x128_S1x128_0_0).toLoadRect (harg4.unread x2))
    (arg2.view.readAt (Elt F) (Rect.unit (s := S1x1x1024) ![0, 0, 128 * r.val] S1x1x128.size (inb_rows r.val r.isLt)).toLoadRect (harg2.unread x0))
    (arg7.view.readAt (Elt F) (Rect.unit (s := S128x4096) (k0_off1 i (BitVec.ofNat 32 r.val)) S128x2048.size (k0_off1_inb i r)).toLoadRect g)

/-- With the position band in scratch, the eight bands stored leave `outBlk`. -/
theorem out_eq (i : grid0.Coords) {arg2 : Memref sig .tc .vmem S1x1x1024 .f32} (harg2 : arg2.IsWhole) {arg3 : Memref sig .tc .vmem S1x1x2048 .f32} (harg3 : arg3.IsWhole)
    {arg4 : Memref sig .tc .vmem S1x128 .f32} (harg4 : arg4.IsWhole) (arg7 : Memref sig .tc .vmem S128x4096 .f32)
    (x0 : Vec F S1x1x1024 .f32) (x1 : Vec F S1x1x2048 .f32) (x2 : Vec F S1x128 .f32) (x3 : Vec F S1x4096 .f32) (g : arg7.view.ty.Contents (Elt F))
    (hg : BandOK (arg7.view.read (Elt F) g) x3) (arg6 : Memref sig .tc .vmem S1x1024x2048 .f32) (f : arg6.view.ty.Contents (Elt F)) :
    arg6.view.read (Elt F) (arg6.view.writes (Elt F) f (firstPieces (bandPiece (bandAt i harg2 harg3 harg4 arg7 x0 x1 x2 g)) 8 (Nat.le_refl 8)))
      = outBlk x0 x1 x2 x3 (i 1) := by
  have hi : (i 1).val < 2 := (i 1).isLt
  refine read_bands _ _ _ _ fun r y x => ?_
  unfold bandAt outBlk
  rw [band_apply]
  have e4 : arg4.view.readAt (Elt F) (Rect.unit (s := S1x128) ![0, 0] S1x128.size inb_S1x128_S1x128_0_0).toLoadRect (harg4.unread x2) = x2 := by
    funext j
    rw [View.readAt_apply, Memref.IsWhole.read_unread]
    refine congrArg x2 (funext fun a => Fin.ext ?_)
    fin_cases a <;> exact (Nat.zero_add _).trans (Nat.one_mul _)
  have e2 : (Rect.unit (s := S1x1x1024) ![0, 0, 128 * r.val] S1x1x128.size (inb_rows r.val r.isLt)).toLoadRect.idx (ix3 (0 : Fin 1) (0 : Fin 1) y)
      = ix3 (0 : Fin 1) (0 : Fin 1) (⟨128 * r.val + y.val, by omega⟩ : Fin 1024) := by
    refine funext fun a => Fin.ext ?_
    fin_cases a
    · rfl
    · rfl
    · exact congrArg (128 * r.val + ·) (Nat.one_mul y.val)
  have e3 : (Rect.unit (s := S1x1x2048) ![0, 0, 0] S1x1x2048.size inb_S1x1x2048_S1x1x2048_0_0_0).toLoadRect.idx (ix3 (0 : Fin 1) (0 : Fin 1) x)
      = ix3 (0 : Fin 1) (0 : Fin 1) x := by
    refine funext fun a => Fin.ext ?_
    fin_cases a <;> exact (Nat.zero_add _).trans (Nat.one_mul _)
  have e7 : (Rect.unit (s := S128x4096) (k0_off1 i (BitVec.ofNat 32 r.val)) S128x2048.size (k0_off1_inb i r)).toLoadRect.idx (ix2 y x)
      = ix2 y (⟨(15 - (8 * (i 1).val + r.val)) * 128 + x.val, by omega⟩ : Fin 4096) := by
    refine funext fun a => Fin.ext ?_
    fin_cases a
    · exact (congrArg₂ (· + ·) (congrFun (off_eq i r) 0) (Nat.one_mul y.val)).trans (Nat.zero_add _)
    · exact congrArg₂ (· + ·) (congrFun (off_eq i r) 1) (Nat.one_mul x.val)
  simp only [View.readAt_apply, Memref.IsWhole.read_unread]
  rw [e4, e2, e3, e7, hg _ _ (by show (15 - (8 * (i 1).val + r.val)) * 128 + x.val < 3968; omega)]
  congr 2
  refine congrArg (ix2 (0 : Fin 1)) (Fin.ext ?_)
  show (15 - (8 * (i 1).val + r.val)) * 128 + x.val + 127 - y.val = 2047 + x.val - (1024 * (i 1).val + (128 * r.val + y.val))
  omega

/-! ## What the 31 tiles leave in scratch -/

theorem inb_lo (n : Nat) (h : n < 31) : ∀ a, (![0, 128 * n] : Fin 2 → Nat) a + S1x128.size a ≤ S1x4096.size a := by
  revert n; decide

theorem inb_hi (n : Nat) (h : n < 31) : ∀ a, (![0, 128 * n + 128] : Fin 2 → Nat) a + S1x128.size a ≤ S1x4096.size a := by
  revert n; decide

/-- Tile `n` of the position band, over the two blocks of the table it loads. -/
def tileAt {arg5 : Memref sig .tc .vmem S1x4096 .f32} (harg5 : arg5.IsWhole) (x3 : Vec F S1x4096 .f32) (n : Fin 31) : Vec F S128x128 .f32 :=
  k0_pay6 (arg5.view.readAt (Elt F) (Rect.unit (s := S1x4096) ![0, 128 * n.val] S1x128.size (inb_lo n.val n.isLt)).toLoadRect (harg5.unread x3))
    (arg5.view.readAt (Elt F) (Rect.unit (s := S1x4096) ![0, 128 * n.val + 128] S1x128.size (inb_hi n.val n.isLt)).toLoadRect (harg5.unread x3))

/-- The 31 tiles stored, the scratch holds the position band. -/
theorem band_ok {arg5 : Memref sig .tc .vmem S1x4096 .f32} (harg5 : arg5.IsWhole) (x3 : Vec F S1x4096 .f32)
    (arg7 : Memref sig .tc .vmem S128x4096 .f32) (f : arg7.view.ty.Contents (Elt F)) :
    BandOK (arg7.view.read (Elt F) (arg7.view.writes (Elt F) f (firstPieces (tilePiece (tileAt harg5 x3)) 31 (Nat.le_refl 31)))) x3 := by
  intro r c hc
  refine (read_tiles arg7.view f (tileAt harg5 x3)
    (fun j => if h : (j (1 : Fin 2)).val + 127 - (j (0 : Fin 2)).val < 4096 then x3 (ix2 (0 : Fin 1) ⟨_, h⟩) else x3 (ix2 (0 : Fin 1) (0 : Fin 4096))) (fun n y x => ?_) r c hc).trans ?_
  · have hx : (128 * n.val + x.val) + 127 - y.val < 4096 := by omega
    refine Eq.trans ?_ (dif_pos hx).symm
    unfold tileAt
    rw [tile_apply]
    simp only [View.readAt_apply, Memref.IsWhole.read_unread]
    split <;> refine congrArg x3 (funext fun a => Fin.ext ?_) <;> fin_cases a
    · rfl
    · show 128 * n.val + 128 + 1 * (x.val + 127 - y.val - 128) = 128 * n.val + x.val + 127 - y.val
      omega
    · rfl
    · show 128 * n.val + 1 * (x.val + 127 - y.val) = 128 * n.val + x.val + 127 - y.val
      omega
  · exact dif_pos (show c.val + 127 - r.val < 4096 by omega)

end Cert.KernelIdeal.Bias

end
-- ==== Proof.RunB.lean ====
module

public import proofs.«01_k».proof.Proof.Body
public import Idealize.ShloMosaic.Lib.Ring
public import Idealize.ShloMosaic.Lib.Tactic

@[expose] public section

set_option maxRecDepth 16384

noncomputable section

namespace Cert.KernelIdeal.Bias

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 1396000 in
theorem runB (c : Dev nD) (i : grid0.Coords) (arg2 : Memref sig .tc .vmem S1x1x1024 .f32) (harg2 : arg2.IsWhole) (arg3 : Memref sig .tc .vmem S1x1x2048 .f32) (harg3 : arg3.IsWhole) (arg4 : Memref sig .tc .vmem S1x128 .f32) (harg4 : arg4.IsWhole) (arg5 : Memref sig .tc .vmem S1x4096 .f32) (harg5 : arg5.IsWhole) (arg6 : Memref sig .tc .vmem S1x1024x2048 .f32) (harg6 : arg6.IsWhole) (arg7 : Memref sig .tc .vmem S128x4096 .f32) (harg7 : arg7.IsWhole) (hc0 : ¬ cond0_0 i)
    (x0 : Vec F S1x1x1024 .f32) (x1 : Vec F S1x1x2048 .f32) (x2 : Vec F S1x128 .f32) (x3 : Vec F S1x4096 .f32) (d : Vec F S128x4096 .f32) (hd : BandOK d x3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk x0 x1 x2 x3 (i 1)) ∗ owns (c : Thread nD τ) arg7 fullShare d) -∗ K ⟨⟩))
          ⊢ wp frame (wpE (defs₀ (F := F)) Variants.none c none) E (cc0__bias_kernel i arg2 harg2 arg3 harg3 arg4 harg4 arg5 harg5 arg6 harg6 arg7 harg7) K := by
    intro E K
    simp only [cc0__bias_kernel_eq_skeleton]; unfold cc0__bias_kernel_skel
    simp only [k0_part50_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact out_eq i harg2 harg3 harg4 arg7 x0 x1 x2 x3 (harg7.unread d) (by rw [harg7.read_unread]; exact hd) arg6 f4
    iexists _; isplitr; swap; · iexact HS0
    ipureintro; exact harg7.read_unread _

end Cert.KernelIdeal.Bias

end
-- ==== Proof.RunA.lean ====
module

public import proofs.«01_k».proof.Proof.RunB
public import Idealize.ShloMosaic.Lib.Ring
public import Idealize.ShloMosaic.Lib.Tactic

@[expose] public section

set_option maxRecDepth 16384

noncomputable section

namespace Cert.KernelIdeal.Bias

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1396000 in
theorem runA (c : Dev nD) (i : grid0.Coords) (arg2 : Memref sig .tc .vmem S1x1x1024 .f32) (harg2 : arg2.IsWhole) (arg3 : Memref sig .tc .vmem S1x1x2048 .f32) (harg3 : arg3.IsWhole) (arg4 : Memref sig .tc .vmem S1x128 .f32) (harg4 : arg4.IsWhole) (arg5 : Memref sig .tc .vmem S1x4096 .f32) (harg5 : arg5.IsWhole) (arg6 : Memref sig .tc .vmem S1x1024x2048 .f32) (harg6 : arg6.IsWhole) (arg7 : Memref sig .tc .vmem S128x4096 .f32) (harg7 : arg7.IsWhole) (hc0 : cond0_0 i)
    (x0 : Vec F S1x1x1024 .f32) (x1 : Vec F S1x1x2048 .f32) (x2 : Vec F S1x128 .f32) (x3 : Vec F S1x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk x0 x1 x2 x3 (i 1)) ∗ (∃ d, owns (c : Thread nD τ) arg7 fullShare d ∗ ⌜BandOK d x3⌝)) -∗ K ⟨⟩))
          ⊢ wp frame (wpE (defs₀ (F := F)) Variants.none c none) E (cc0__bias_kernel i arg2 harg2 arg3 harg3 arg4 harg4 arg5 harg5 arg6 harg6 arg7 harg7) K := by
    intro E K
    simp only [cc0__bias_kernel_eq_skeleton]; unfold cc0__bias_kernel_skel
    simp only [k0_part50_eq_skeleton, k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact out_eq i harg2 harg3 harg4 arg7 x0 x1 x2 x3 _ (band_ok harg5 x3 arg7 fs0) arg6 f4
    iexists _
    isplitl [HS0]
    · iexists _; isplitr; swap; · iexact HS0
      ipureintro; rfl
    ipureintro
    exact band_ok harg5 x3 arg7 fs0

end Cert.KernelIdeal.Bias

end
-- ==== Proof.Launch.lean ====
module

public import proofs.«01_k».proof.Proof.RunA
public import Idealize.ShloMosaic.Lib.Claim

@[expose] public section

set_option maxRecDepth 16384

noncomputable section

namespace Cert.KernelIdeal.Bias

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points and what the body is called with -/

/-- The body builds the position band at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 8 = 0)

/-- Each window's current staging buffer at point `t`, and that it is a whole buffer. -/
abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .f32 := win0_4.stage (cfg0.slots t 4)
abbrev hs0_4 (t : Fin cfg0.N) : (ms0_4 t).IsWhole := hstage0_4 ((cfg0.slots t 4).cast nbuf0_4)
/-- The scratch, a whole buffer. -/
abbrev scM0_0 : Memref sig .tc .vmem S128x4096 .f32 := Memref.whole cc0_scratch0

/-- The launch's invariant: the scratch at some contents, and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The proof data -/

/-- The position table is one block, the same at every point. -/
theorem iblk3_eq (c : Dev nD) (t : Fin cfg0.N) : iblk m c 3 t = iblk m c 3 t0_0 := rfl

/-- Between points: the scratch holds the position band, unless no point has run; and the generator's register. -/
def carried (c : Dev nD) (n : Nat) : sProp 𝕄 :=
  iprop((∃ d, owns (c : Thread nD τ) scM0_0 fullShare d ∗ ⌜n = 0 ∨ BandOK d (iblk m c 3 t0_0)⌝) ∗ (∃ r, prngReg c r))

/-- The proof data on core `c`: the arrays as the launch finds them; each input's block left in place; the output block
    at `outBlk` of the inputs' blocks; the carried scratch; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t) (grid0.coords t 1)
  Φ t := carried m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = outBlk (iblk m c 0 t) (iblk m c 1 t) (iblk m c 2 t) (iblk m c 3 t) (grid0.coords t 1) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: at the first it builds the band in scratch, at the others it finds it there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.castSucc = carried m c t.val from rfl, show (dats m 0 c).Φ t.succ = carried m c (t.val + 1) from rfl]
  unfold carried
  have hN : t.val < 8 := lt_of_lt_of_eq t.isLt (show cfg0.N = 8 from N_0)
  by_cases h0 : t.val % 8 = 0
  · iintro ⟨⟨⟨%d, HS0, -⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexists _; iexact HS0
    iintro ⟨H0, H1, H2, H3, H4, ⟨%d', HS0, %hd⟩⟩
    isplitl [HS0 Hg]
    · isplitl [HS0]
      · iexists d'; isplitl [HS0]; · iexact HS0
        ipureintro; exact .inr hd
      iexact Hg
    isplitl [Ho]; · iexact Ho
    isplitl [H0]; · iexact H0
    isplitl [H1]; · iexact H1
    isplitl [H2]; · iexact H2
    isplitl [H3]; · iexact H3
    iexact H4
  · iintro ⟨⟨⟨%d, HS0, %hd⟩, Hg⟩, Ho, ⟨%d0, H0⟩, ⟨%d1, H1⟩, ⟨%d2, H2⟩, ⟨%d3, H3⟩, ⟨%d4, H4⟩⟩
    have hd' : BandOK d (iblk m c 3 t0_0) := hd.resolve_left (by omega)
    iapply ((runB c (grid0.coords t) _ _ _ _ _ _ _ _ _ _ _ _ (fun h => h0 ((hcond0_0 t).mp h)) (iblk m c 0 t) (iblk m c 1 t) (iblk m c 2 t) (iblk m c 3 t) d hd') Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexists d; isplitl [HS0]; · iexact HS0
        ipureintro; exact .inr hd'
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Entering the launch the scratch holds anything. -/
theorem carried_in (c : Dev nD) : (Pipeline.ΦA spec0 c : sProp 𝕄) ⊢ carried m c 0 := by
  rw [PhiA0_eq]
  unfold carried
  iintro ⟨⟨%d, H⟩, Hg⟩
  isplitl [H]
  · iexists d; isplitl [H]; · iexact H
    ipureintro; exact .inl rfl
  iexact Hg

/-- Leaving it, what the scratch holds is forgotten. -/
theorem carried_out (c : Dev nD) (n : Nat) : carried m c n ⊢ (Pipeline.ΦA spec0 c : sProp 𝕄) := by
  rw [PhiA0_eq]
  unfold carried
  iintro ⟨⟨%d, H, -⟩, Hg⟩
  isplitl [H]
  · iexists d; iexact H
  iexact Hg

set_option backward.isDefEq.respectTransparency.types false in
/-- The launch: every execution ends, with the arrays as the proof data says and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Bias

end
-- ==== Proof.Printed.lean ====
module

public import proofs.«01_k».proof.Defs
public import proofs.«01_k».proof.Proof.Gen.Kernel
public import proofs.«01_k».proof.Proof.Launch

/-! The kernel as printed and the kernel read at the extended reals are one program: no operation was rewritten between them.
The frame of Proof/Launch.lean is proved at every type of floats, so at the machine's floats it is the printed kernel's. -/

@[expose] public section

noncomputable section

namespace Cert.Kernel.Bias

open Idealize.ShloMosaic Idealize.SL.Sem

variable {F : FTy → Type} [FloatOps F]

/-- The two kernel bodies are one function. -/
theorem body_eq : cc0__bias_kernel (F := F) = Cert.KernelIdeal.cc0__bias_kernel (F := F) := rfl

/-- The two tables of kernel bodies are one table. -/
theorem defs₀_eq : defs₀ (F := F) = Cert.KernelIdeal.defs₀ (F := F) := by
  unfold defs₀ Cert.KernelIdeal.defs₀
  congr 1
  funext l x
  match l, x with
  | 0, _ => rw [body_eq]; rfl

/-- The two body tables, with their pipelines, are one table. -/
theorem defs_eq : defs (F := F) = Cert.KernelIdeal.defs (F := F) := congrArg (Pipeline.defs pcfgs) defs₀_eq

/-- The two host programs are one program. -/
theorem main_eq : main (F := F) = Cert.KernelIdeal.main (F := F) := rfl

/-- The printed kernel's frame: its arguments end unchanged and every semaphore is at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.KernelIdeal.Bias.frame m ρ

end Cert.Kernel.Bias

end
-- ==== Proof.Value.lean ====
module

public import proofs.«01_k».proof.Proof.Launch
public import Idealize.ShloMosaic.Lib.Pipeline.ValueKit

@[expose] public section

set_option maxRecDepth 16384

noncomputable section

namespace Cert.KernelIdeal.Bias

open Cert.KernelIdeal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ) (ρ : Dev nD → PrngReg)

/-- The result as a function of the three arguments: at batch `b`, row `i` and column `j`, the table's value at the bucket of
    the time after `i`'s (the last time at the last row) and `j`'s, and the position weight `2047 + j - i` added. -/
def value (times : IVec S4x2048 32) (table : Vec F S129 .f32) (pos : Vec F S4095 .f32) : Vec F S4x2048x2048 .f32 := fun j =>
  FloatOps.addf (F := F)
    (table (ix1 (⟨(lane (bucket (FloatOps.sitofp (F := F) .f32 (times (ix2 (j (0 : Fin 3)) (⟨min ((j (1 : Fin 3)).val + 1) 2047, by omega⟩ : Fin 2048))))
      (FloatOps.sitofp (F := F) .f32 (times (ix2 (j (0 : Fin 3)) (j (2 : Fin 3))))))).toNat % 128, Nat.lt_of_lt_of_le (Nat.mod_lt _ (by decide)) (by decide)⟩ : Fin 129)))
    (pos (ix1 (⟨2047 + (j (2 : Fin 3)).val - (j (1 : Fin 3)).val, by
      have : (j (2 : Fin 3)).val < 2048 := (j (2 : Fin 3)).isLt
      omega⟩ : Fin 4095)))

/-- The blocks' indices at point `t`: the row times' `t`, the column times' `t / 2`, the two tables' 0, the output's
    `(t / 2, t % 2, 0)`. -/
theorem idx : ∀ t : Fin cfg0.N, win0_0.index t = ![t.val, 0, 0] ∧ win0_1.index t = ![t.val / 2, 0, 0] ∧ win0_2.index t = ![0, 0]
    ∧ win0_3.index t = ![0, 0] ∧ win0_4.index t = ![t.val / 2, t.val % 2, 0] :=
  (by decide +kernel : ∀ t : Fin grid0.N, win0_0.index t = ![t.val, 0, 0] ∧ win0_1.index t = ![t.val / 2, 0, 0] ∧ win0_2.index t = ![0, 0]
    ∧ win0_3.index t = ![0, 0] ∧ win0_4.index t = ![t.val / 2, t.val % 2, 0])

theorem point_lt (t : Fin cfg0.N) : t.val < 8 := Nat.lt_of_lt_of_eq t.isLt N_0

/-- The row times: each row's next time, the last row's its own, in blocks of 1024. -/
theorem V_rows (c : Dev nD) (b : Fin 8) (y : Fin 1024) : (V m c main_call0_v4 : Vec F S8x1x1024 .f32) (ix3 b (0 : Fin 1) y)
    = FloatOps.sitofp .f32 ((m ((c : Thread nD τ).loc main_arg0) : IVec S4x2048 32) (ix2 (⟨b.val / 2, by omega⟩ : Fin 4)
          (⟨min (1024 * (b.val % 2) + y.val + 1) 2047, by omega⟩ : Fin 2048))) := by
  entry_read
  generalize m ((c : Thread nD τ).loc main_arg0) = x
  refine Eq.trans (b := sitofp (F := F) .f32 (shapeCast S8x1x1024 (concatenate S4x2048 1 [⟨S4x2047, extractStridedSlice S4x2047 ![0, 1] (x : IVec S4x2048 32) slices_S4x2048_S4x2047_0_1⟩, ⟨S4x1, extractStridedSlice S4x1 ![0, 2047] (x : IVec S4x2048 32) slices_S4x2048_S4x1_0_2047⟩] concatenates_S4x2047_S4x1_S4x2048_d1) shapeCasts_S4x2048_S8x1x1024) (ix3 b (0 : Fin 1) y)) rfl ?_
  pointwise
  refine congrArg _ ?_
  split <;> exact congrArg x (congrArg (ix2 _) (Fin.ext (by dsimp only; omega)))

theorem V_cols (c : Dev nD) (b : Fin 4) (x : Fin 2048) : (V m c main_call0_v6 : Vec F S4x1x2048 .f32) (ix3 b (0 : Fin 1) x)
    = FloatOps.sitofp .f32 ((m ((c : Thread nD τ).loc main_arg0) : IVec S4x2048 32) (ix2 b x)) := by
  entry_read
  generalize m ((c : Thread nD τ).loc main_arg0) = z
  refine Eq.trans (b := sitofp (F := F) .f32 (shapeCast S4x1x2048 (z : IVec S4x2048 32) shapeCasts_S4x2048_S4x1x2048) (ix3 b (0 : Fin 1) x)) rfl ?_
  pointwise

theorem V_table (c : Dev nD) (x : Fin 128) : (V m c main_call0_v8 : Vec F S1x128 .f32) (ix2 (0 : Fin 1) x)
    = (m ((c : Thread nD τ).loc main_arg1) : Vec F S129 .f32) (ix1 (⟨x.val, by omega⟩ : Fin 129)) := by
  entry_read
  generalize m ((c : Thread nD τ).loc main_arg1) = z
  refine Eq.trans (b := shapeCast S1x128 (extractStridedSlice S128 ![0] (z : Vec F S129 .f32) slices_S129_S128_0) shapeCasts_S128_S1x128 (ix2 (0 : Fin 1) x)) rfl ?_
  pointwise

theorem V_pos (c : Dev nD) (x : Fin 4096) (hx : x.val < 4095) : (V m c main_call0_v11 : Vec F S1x4096 .f32) (ix2 (0 : Fin 1) x)
    = (m ((c : Thread nD τ).loc main_arg2) : Vec F S4095 .f32) (ix1 (⟨x.val, hx⟩ : Fin 4095)) := by
  entry_read
  generalize m ((c : Thread nD τ).loc main_arg2) = z
  refine Eq.trans (b := shapeCast S1x4096 (concatenate S4096 0 [⟨S4095, (z : Vec F S4095 .f32)⟩, ⟨S1, broadcastInDim S1 ![] bcast_S_S1 (constant S_ .f32 0#32)⟩] concatenates_S4095_S1_S4096_d0) shapeCasts_S4096_S1x4096 (ix2 (0 : Fin 1) x)) rfl ?_
  pointwise
  exact dif_pos hx

theorem iblk0_apply (c : Dev nD) (t : Fin cfg0.N) (y : Fin 1024) :
    iblk m c 0 t (ix3 (0 : Fin 1) (0 : Fin 1) y) = (V m c main_call0_v4 : Vec F S8x1x1024 .f32) (ix3 (⟨t.val, point_lt t⟩ : Fin 8) (0 : Fin 1) y) := by
  blk_ext [iblk, idx t]

theorem iblk1_apply (c : Dev nD) (t : Fin cfg0.N) (x : Fin 2048) :
    iblk m c 1 t (ix3 (0 : Fin 1) (0 : Fin 1) x) = (V m c main_call0_v6 : Vec F S4x1x2048 .f32) (ix3 (⟨t.val / 2, by have := point_lt t; omega⟩ : Fin 4) (0 : Fin 1) x) := by
  blk_ext [iblk, idx t]

theorem iblk2_apply (c : Dev nD) (t : Fin cfg0.N) (x : Fin 128) :
    iblk m c 2 t (ix2 (0 : Fin 1) x) = (V m c main_call0_v8 : Vec F S1x128 .f32) (ix2 (0 : Fin 1) x) := by
  blk_ext [iblk, idx t]

theorem iblk3_apply (c : Dev nD) (t : Fin cfg0.N) (x : Fin 4096) :
    iblk m c 3 t (ix2 (0 : Fin 1) x) = (V m c main_call0_v11 : Vec F S1x4096 .f32) (ix2 (0 : Fin 1) x) := by
  blk_ext [iblk, idx t]

theorem final (c : Dev nD) : (dats m 0 c).arrAt 4 cfg0.N
    = value (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have hN := point_lt t
  have hn : (grid0.coords t 1).val = t.val % 2 := by
    have e1 : (grid0.coords t 1).val = t.val / 1 % 2 := Pipeline.Grid.coords_val t 1 (by decide) rfl
    rw [e1, Nat.div_one]
  change S1x1024x2048.Idx at y
  idx_vars y
  obtain rfl : y0 = 0 := Subsingleton.elim _ _
  have e : (win0_4.blk t).view.emb (ix3 (0 : Fin 1) y1 y2)
      = ix3 (⟨t.val / 2, by omega⟩ : Fin 4) (⟨1024 * (t.val % 2) + y1.val, by omega⟩ : Fin 2048) y2 := by
    blk_ext [idx t]
  rw [e]
  unfold outBlk value lookup
  have hp : 2047 + y2.val - (1024 * (grid0.coords t 1).val + y1.val) < 4095 := by omega
  show FloatOps.addf (iblk m c 2 t (ix2 (0 : Fin 1) ⟨(lane (bucket (iblk m c 0 t (ix3 (0 : Fin 1) (0 : Fin 1) y1)) (iblk m c 1 t (ix3 (0 : Fin 1) (0 : Fin 1) y2)))).toNat % 128, Nat.mod_lt _ (by decide)⟩))
    (iblk m c 3 t (ix2 (0 : Fin 1) ⟨2047 + y2.val - (1024 * (grid0.coords t 1).val + y1.val), Nat.lt_of_lt_of_le hp (by decide)⟩)) = _
  rw [iblk2_apply, V_table, iblk3_apply, V_pos m c _ hp]
  have e0 := (iblk0_apply m c t y1).trans (V_rows m c _ y1)
  have e1 := (iblk1_apply m c t y2).trans (V_cols m c _ y2)
  simp only [e0, e1, hn]
  rfl

end Cert.KernelIdeal.Bias

end
-- ==== Proof.Bucket.lean ====
module

public import proofs.«01_k».proof.Proof.Body
public import Idealize.ShloMosaic.PureOps.Ideal
public import Idealize.ShloMosaic.PureOps.Ideal.Laws
public import Idealize.ShloMosaic.Lib.IdealHost
public import Idealize.ShloMosaic.Lib.WordCmp

@[expose] public section

noncomputable section

namespace Cert.KernelIdeal.Bias

open Idealize.ShloMosaic

/-- The larger of 1 and the distance between two times, computed on 32-bit words. -/
def distance (s t : BitVec 32) : BitVec 32 := IntOp.maxsi (IntOp.absi (IntOp.subi s t)) 1#32

/-- Times that are not negative are less than `2 ^ 31` apart, so their distance is computed without wrapping. -/
theorem toInt_distance {s t : BitVec 32} (hs : 0 ≤ s.toInt) (ht : 0 ≤ t.toInt) :
    (distance s t).toInt = max |s.toInt - t.toInt| 1 := by
  have hs' : s.toInt < 2 ^ 31 := BitVec.toInt_lt
  have ht' : t.toInt < 2 ^ 31 := BitVec.toInt_lt
  have hsub : (IntOp.subi s t).toInt = s.toInt - t.toInt := by
    rw [IntOp.subi, BitVec.toInt_sub]
    exact Int.bmod_eq_of_le (by omega) (by omega)
  have habs : (IntOp.absi (IntOp.subi s t)).toInt = |s.toInt - t.toInt| := by
    rw [IntOp.absi, BitVec.msb_eq_toInt, hsub]
    by_cases h : s.toInt - t.toInt < 0
    · rw [if_pos (decide_eq_true h), BitVec.toInt_neg, hsub, abs_of_neg h]
      exact Int.bmod_eq_of_le (by omega) (by omega)
    · rw [if_neg (by simpa using h), hsub, abs_of_nonneg (not_lt.mp h)]
  rw [distance, IntOp.maxsi, BitVec.slt, habs]
  have one : (1#32 : BitVec 32).toInt = 1 := by decide
  rw [one]
  by_cases h : 1 < |s.toInt - t.toInt|
  · rw [if_pos (decide_eq_true h), habs, max_eq_left h.le]
  · rw [if_neg (by simpa using h), one, max_eq_right (not_lt.mp h)]

/-- The word `0x3E9A1CAC` read as a real: 0.301 to 24 bits. -/
theorem base_word : Ideal.ofBits .f32 0x3E9A1CAC#32 = ((10099884 / 33554432 : ℝ) : EReal) := by
  simp [Ideal.ofBits, Ideal.ieee, -EReal.coe_mul]; norm_num

/-- The kernel's distance at the extended reals is the words' distance. -/
theorem distance_real {s t : BitVec 32} (hs : 0 ≤ s.toInt) (ht : 0 ≤ t.toInt) :
    max (max ((((s.toInt : ℝ) : EReal)) - ((t.toInt : ℝ) : EReal)) (-((((s.toInt : ℝ) : EReal)) - ((t.toInt : ℝ) : EReal)))) 1
      = (((distance s t).toInt : ℝ) : EReal) := by
  rw [toInt_distance hs ht, ← EReal.coe_sub, ← EReal.coe_neg, ← EReal.coe_one, ← EReal.coe_strictMono.monotone.map_max,
    ← EReal.coe_strictMono.monotone.map_max]
  push_cast
  rfl

/-- The bucket of a distance: its logarithm over 0.301, truncated. -/
def bucketOf (n : BitVec 32) : BitVec 32 :=
  FloatOps.fptosi (F := Ideal) 32 (FloatOps.hostDivf (FloatOps.hostUnary .log (FloatOps.sitofp .f32 n)) (FloatOps.ofBits .f32 0x3E9A1CAC#32))

/-- The kernel's bucket of two times that are not negative is the bucket of their distance. -/
theorem bucket_eq {s t : BitVec 32} (hs : 0 ≤ s.toInt) (ht : 0 ≤ t.toInt) :
    bucket (F := Ideal) (FloatOps.sitofp .f32 s) (FloatOps.sitofp .f32 t) = bucketOf (distance s t) := by
  refine Eq.trans (b := Ideal.fptosi 32 (Ideal.div (Ideal.log (max (max ((((s.toInt : ℝ) : EReal)) - ((t.toInt : ℝ) : EReal))
    (-((((s.toInt : ℝ) : EReal)) - ((t.toInt : ℝ) : EReal)))) (Ideal.ofBits .f32 0x3F800000#32))) (Ideal.ofBits .f32 0x3E9A1CAC#32))) rfl ?_
  rw [Ideal.ofBits_one_f32, distance_real hs ht]
  rfl

/-- A distance is below `2 ^ 31`, so its logarithm over 0.301 is at least 0 and below 128, and so is its bucket. -/
theorem toInt_bucketOf {n : BitVec 32} (hn : 1 ≤ n.toInt) : 0 ≤ (bucketOf n).toInt ∧ (bucketOf n).toInt < 128 := by
  have hlt : n.toInt < 2 ^ 31 := BitVec.toInt_lt
  have h1 : (1 : ℝ) ≤ (n.toInt : ℝ) := by exact_mod_cast hn
  have h0 : ¬ (n.toInt : ℝ) ≤ 0 := by linarith
  have hlog0 : 0 ≤ Real.log (n.toInt : ℝ) := Real.log_nonneg h1
  have hlog : Real.log (n.toInt : ℝ) ≤ 31 := by
    have h2 : (n.toInt : ℝ) ≤ 2 ^ 31 := by exact_mod_cast hlt.le
    have h3 := Real.log_le_log (by linarith) h2
    rw [Real.log_pow] at h3
    have h4 : Real.log 2 ≤ 2 - 1 := Real.log_le_sub_one_of_pos (by norm_num)
    push_cast at h3
    linarith
  have hq0 : 0 ≤ Real.log (n.toInt : ℝ) * (1 / (10099884 / 33554432 : ℝ)) := by positivity
  have hq1 : Real.log (n.toInt : ℝ) * (1 / (10099884 / 33554432 : ℝ)) < 128 := by
    norm_num; linarith
  have hf0 : 0 ≤ ⌊Real.log (n.toInt : ℝ) * (1 / (10099884 / 33554432 : ℝ))⌋ := Int.floor_nonneg.mpr hq0
  have hf1 : ⌊Real.log (n.toInt : ℝ) * (1 / (10099884 / 33554432 : ℝ))⌋ < 128 := Int.floor_lt.mpr (by exact_mod_cast hq1)
  have hb : bucketOf n = BitVec.ofInt 32 (⌊Real.log (n.toInt : ℝ) * (1 / (10099884 / 33554432 : ℝ))⌋) := by
    refine Eq.trans (b := Ideal.fptosi 32 (Ideal.div (Ideal.log ((n.toInt : ℝ) : EReal)) (Ideal.ofBits .f32 0x3E9A1CAC#32))) rfl ?_
    rw [base_word, Ideal.log_coe, if_neg h0, Ideal.div_coe (by norm_num), ← EReal.coe_mul]
    refine congrArg (BitVec.ofInt 32) ?_
    show max _ (min _ (if 0 ≤ _ then _ else _)) = _
    rw [if_pos hq0]
    generalize ⌊Real.log (n.toInt : ℝ) * (1 / (10099884 / 33554432 : ℝ))⌋ = q at *
    omega
  rw [hb]
  generalize ⌊Real.log (n.toInt : ℝ) * (1 / (10099884 / 33554432 : ℝ))⌋ = q at *
  rw [BitVec.toInt_ofInt, Int.bmod_eq_of_le (by omega) (by omega)]
  exact ⟨hf0, hf1⟩

/-- The bucket of two times that are not negative lies in `[0, 128)`. -/
theorem toInt_bucket_range {s t : BitVec 32} (hs : 0 ≤ s.toInt) (ht : 0 ≤ t.toInt) :
    0 ≤ (bucketOf (distance s t)).toInt ∧ (bucketOf (distance s t)).toInt < 128 :=
  toInt_bucketOf (by rw [toInt_distance hs ht]; exact le_max_right _ _)

/-- A bucket in `[0, 128)` is its own lane. -/
theorem lane_eq {q : BitVec 32} (h0 : 0 ≤ q.toInt) : lane q = q := by
  unfold lane
  rw [WordCmp.cmpi_slt_eq, show (0#32 : BitVec 32).toInt = 0 by decide, decide_eq_false (not_lt.mpr h0)]
  rfl

/-- A bucket in `[0, 128)` read unsigned is below 128. -/
theorem toNat_lt {q : BitVec 32} (h0 : 0 ≤ q.toInt) (h1 : q.toInt < 128) : q.toNat < 128 := by
  rw [BitVec.toInt_eq_toNat_cond] at h0 h1
  have := q.isLt
  split at h0 <;> omega

end Cert.KernelIdeal.Bias

end
-- ==== Proof.Reference.lean ====
module

public import proofs.«01_k».proof.Proof.Bucket
public import proofs.«01_k».proof.Proof.Value
public import proofs.«01_k».proof.Proof.Gen.ReferenceIdeal.Read
public import Idealize.ShloMosaic.Lib.Pointwise
public import Idealize.ShloMosaic.Lib.KernelVsHost
public import Idealize.ShloMosaic.Lib.ReduceAll
public import Idealize.ShloMosaic.Lib.Pipeline.ValueKit

@[expose] public section

set_option maxRecDepth 16384

noncomputable section

namespace Cert.ReferenceIdeal.Bias

open Cert.ReferenceIdeal Cert.ReferenceIdeal.Gen Cert.ReferenceIdeal.Read
open Idealize.ShloMosaic
open Cert.KernelIdeal.Bias (distance bucketOf)

/-- The position part at row `i` and column `j`: position weight `2047 + j - i`. Flat entry `6142 i + 2047 + j` of the rows
    repeated with period 6143 is entry `2047 + j - i` of row `i`. -/
theorem position (x2 : Vec Ideal S4095 .f32) (b : Fin 4) (i j : Fin 2048) :
    val_main_v29 (F := Ideal) x2 (ix3 b i j) = x2 (ix1 (⟨2047 + j.val - i.val, by omega⟩ : Fin 4095)) := by
  rw [val_main_v29_apply, val_main_v7_apply, val_main_v6_apply, val_main_v5_apply, val_main_v4_apply, val_main_v3_apply,
    val_main_v2_apply, val_main_v1_apply, val_main_v0]
  refine pad_apply_of_inside _ _ _ _ _ _ _ _ _ fun a => ?_
  match a with
  | ⟨0, _⟩ =>
    dsimp only [idx_main_v29, idx_main_v7, idx_main_v6, idx_main_v5, idx_main_v4, idx_main_v3, idx_main_v2, idx_main_v1]
    show _ = 0 + (2047 + j.val - i.val) * (0 + 1)
    have hi := i.isLt
    have hj := j.isLt
    show 0 * 6143 + (i.val * 6142 + (2047 + j.val)) % 6143 = _
    omega

/-- The next time at row `i`: the time at `i + 1`, the last row's own. -/
theorem rows (x0 : IVec S4x2048 32) (b : Fin 4) (i j : Fin 2048) :
    val_main_v14 (F := Ideal) x0 (ix3 b i j) = x0 (ix2 b (⟨min (i.val + 1) 2047, by omega⟩ : Fin 2048)) := by
  pointwise [val_main_v14, val_main_v11, val_main_v10, val_main_v9, val_main_v8]
  split <;> exact congrArg x0 (congrArg (ix2 _) (Fin.ext (by dsimp only; omega)))

/-- The time at column `j`. -/
theorem cols (x0 : IVec S4x2048 32) (b : Fin 4) (i j : Fin 2048) :
    val_main_v15 (F := Ideal) x0 (ix3 b i j) = x0 (ix2 b j) := by
  pointwise [val_main_v15, val_main_v13, val_main_v12, val_main_v9, val_main_v8]

/-- The clamped bucket at an index is that of its two times, which no clamp changes. -/
theorem buckets (x0 : IVec S4x2048 32) (h : ∀ k, 0 ≤ (x0 k).toInt) (b : Fin 4) (i j : Fin 2048) :
    val_main_v25 (F := Ideal) x0 (ix3 b i j)
      = bucketOf (distance (x0 (ix2 b (⟨min (i.val + 1) 2047, by omega⟩ : Fin 2048))) (x0 (ix2 b j))) := by
  obtain ⟨h0, h1⟩ := Cert.KernelIdeal.Bias.toInt_bucket_range (h (ix2 b (⟨min (i.val + 1) 2047, by omega⟩ : Fin 2048))) (h (ix2 b j))
  refine Eq.trans (b := IntOp.minsi 128#32 (IntOp.maxsi 0#32 (bucketOf (distance (val_main_v14 (F := Ideal) x0 (ix3 b i j))
    (val_main_v15 (F := Ideal) x0 (ix3 b i j)))))) rfl ?_
  rw [rows, cols]
  generalize bucketOf (distance _ _) = q at *
  have hmax : IntOp.maxsi 0#32 q = q := by
    rw [IntOp.maxsi, BitVec.slt, show (0#32 : BitVec 32).toInt = 0 by decide]
    by_cases hq : q.toInt < 0
    · omega
    · rw [if_neg (by simpa using hq)]
  rw [hmax, IntOp.minsi, BitVec.slt, show (128#32 : BitVec 32).toInt = 128 by decide]
  rw [if_neg (by simpa using h1.le)]

/-- A rank-3 index is built from its three coordinates. -/
theorem ix3_parts (k : S4x2048x2048.Idx) : ∃ (b : Fin 4) (i j : Fin 2048), k = ix3 b i j :=
  ⟨k (0 : Fin 3), k (1 : Fin 3), k (2 : Fin 3), funext fun a => match a with
    | ⟨0, _⟩ => rfl
    | ⟨1, _⟩ => rfl
    | ⟨2, _⟩ => rfl⟩

/-- Every clamped bucket lies in `[0, 128)`. -/
theorem buckets_range (x0 : IVec S4x2048 32) (h : ∀ k, 0 ≤ (x0 k).toInt) (k : S4x2048x2048.Idx) :
    0 ≤ (val_main_v25 (F := Ideal) x0 k).toInt ∧ (val_main_v25 (F := Ideal) x0 k).toInt < 128 := by
  obtain ⟨b, i, j, rfl⟩ := ix3_parts k
  rw [buckets x0 h]
  exact Cert.KernelIdeal.Bias.toInt_bucket_range (h _) (h _)

/-- The index the table is read at: no bucket is negative, so none is wrapped. -/
theorem start (x0 : IVec S4x2048 32) (h : ∀ k, 0 ≤ (x0 k).toInt) (k : S16777216x1.Idx) :
    val_main_call2_v5 (F := Ideal) x0 k = val_main_v25 (F := Ideal) x0 (idx_main_v26 (idx_main_call2_v5 k)) := by
  obtain ⟨h0, h1⟩ := buckets_range x0 h (idx_main_v26 (idx_main_call2_v5 k))
  rw [val_main_call2_v5_apply, val_main_call2_v4_apply, val_main_call2_v1_apply, val_main_call2_v3_apply, val_main_v26_apply]
  generalize val_main_v25 (F := Ideal) x0 (idx_main_v26 (idx_main_call2_v5 k)) = q at *
  have e : IntOp.cmpi .slt q (val_main_call2_v0 (F := Ideal) (idx_main_call2_v5 k)) = 0#1 := by
    refine Eq.trans (b := IntOp.cmpi .slt q 0#32) rfl ?_
    rw [WordCmp.cmpi_slt_eq, show (0#32 : BitVec 32).toInt = 0 by decide, decide_eq_false (not_lt.mpr h0)]
    rfl
  rw [e]
  rfl

/-- The mask of indices inside the table is 1 everywhere. -/
theorem mask (x0 : IVec S4x2048 32) (h : ∀ k, 0 ≤ (x0 k).toInt) (k : S16777216.Idx) : val_main_call2_v12 (F := Ideal) x0 k = 1#1 := by
  refine Host.reduce_andi_one _ _ _ _ _ rfl fun i => ?_
  refine Eq.trans (b := IntOp.andi (IntOp.cmpi .sge (val_main_call2_v5 (F := Ideal) x0 i) 0#32)
    (IntOp.cmpi .sle (val_main_call2_v5 (F := Ideal) x0 i) 128#32)) rfl ?_
  rw [start x0 h]
  obtain ⟨h0, h1⟩ := buckets_range x0 h (idx_main_v26 (idx_main_call2_v5 i))
  rw [WordCmp.cmpi_sge_eq, WordCmp.cmpi_sle_eq, show (0#32 : BitVec 32).toInt = 0 by decide,
    show (128#32 : BitVec 32).toInt = 128 by decide, decide_eq_true h0, decide_eq_true h1.le]
  rfl

/-- The gather of the table at one index per entry, read at an entry: the table at that index, clamped into the table. -/
theorem gathered (x1 : Vec Ideal S129 .f32) (idx : IVec S16777216x1 32) (k : Fin 16777216) :
    Host.gather gather_S129_S16777216x1_S16777216_n_0_n_n_0_1_1 x1 idx (ix1 k)
      = x1 (ix1 (⟨min (idx (ix2 k (0 : Fin 1))).toInt.toNat 128, by omega⟩ : Fin 129)) := by
  refine congrArg x1 (funext fun a => ?_)
  obtain rfl : a = 0 := Subsingleton.elim _ _
  refine Fin.ext ?_
  show GatherDims.start _ (ix1 k) idx 0 + GatherDims.batchCoord _ (ix1 k) 0 + GatherDims.offCoord _ (ix1 k) 0 = _
  rw [GatherDims.batchCoord_eq_zero _ _ _ List.not_mem_nil,
    GatherDims.offCoord_eq_zero _ _ _ fun h => ((GatherDims.mem_sKept _ _).mp h).1 (List.mem_singleton.mpr rfl)]
  rw [GatherDims.start, dif_pos (show (0 : Fin 1) ∈ gather_S129_S16777216x1_S16777216_n_0_n_n_0_1_1.startIndexMap from List.mem_singleton.mpr rfl)]
  have hs : ∀ n, GatherDims.siIdx gather_S129_S16777216x1_S16777216_n_0_n_n_0_1_1 (ix1 k) n = ix2 k (0 : Fin 1) := by
    intro n
    funext b
    match b with
    | ⟨0, _⟩ => exact Fin.ext rfl
    | ⟨1, _⟩ => exact Subsingleton.elim (α := Fin 1) _ _
  rw [hs]
  rfl

/-- The looked-up part at an index: the table at the bucket of its two times. -/
theorem lookups (x0 : IVec S4x2048 32) (h : ∀ k, 0 ≤ (x0 k).toInt) (x1 : Vec Ideal S129 .f32) (b : Fin 4) (i j : Fin 2048)
    (n : Fin 129) (hn : n.val = (bucketOf (distance (x0 (ix2 b (⟨min (i.val + 1) 2047, by omega⟩ : Fin 2048))) (x0 (ix2 b j)))).toNat) :
    val_main_v28 (F := Ideal) x0 x1 (ix3 b i j) = x1 (ix1 n) := by
  rw [val_main_v28_apply, val_main_v27_apply, mask x0 h]
  refine Eq.trans (b := val_main_call2_v13 (F := Ideal) x0 x1 (idx_main_v28 (ix3 b i j))) rfl ?_
  have e : idx_main_v28 (ix3 b i j) = ix1 (⟨(b.val * 2048 + i.val) * 2048 + j.val, by omega⟩ : Fin 16777216) := by
    funext a
    match a with
    | ⟨0, _⟩ => rfl
  have e' : idx_main_v26 (idx_main_call2_v5 (ix2 (⟨(b.val * 2048 + i.val) * 2048 + j.val, by omega⟩ : Fin 16777216) (0 : Fin 1))) = ix3 b i j := by
    funext a
    match a with
    | ⟨0, _⟩ => exact Fin.ext (by show ((b.val * 2048 + i.val) * 2048 + j.val) / 4194304 = b.val; omega)
    | ⟨1, _⟩ => exact Fin.ext (by show ((b.val * 2048 + i.val) * 2048 + j.val) / 2048 % 2048 = i.val; omega)
    | ⟨2, _⟩ => exact Fin.ext (by show ((b.val * 2048 + i.val) * 2048 + j.val) % 2048 = j.val; omega)
  rw [e, val_main_call2_v13, gathered]
  refine congrArg x1 (congrArg ix1 (Fin.ext ?_))
  show min (val_main_call2_v5 (F := Ideal) x0 _).toInt.toNat 128 = n.val
  rw [start x0 h, e', buckets x0 h, hn]
  obtain ⟨h0, h1⟩ := Cert.KernelIdeal.Bias.toInt_bucket_range (h (ix2 b (⟨min (i.val + 1) 2047, by omega⟩ : Fin 2048))) (h (ix2 b j))
  have hq := Cert.KernelIdeal.Bias.toNat_lt h0 h1
  have hi := WordCmp.toInt_eq_toNat_of_lt_half (w := 32) (Nat.lt_trans hq (by decide))
  rw [hi]
  omega

/-- For times that are not negative the kernel's result is the reference's. -/
theorem value_eq (x0 : IVec S4x2048 32) (h : ∀ k, 0 ≤ (x0 k).toInt) (x1 : Vec Ideal S129 .f32) (x2 : Vec Ideal S4095 .f32) :
    Cert.KernelIdeal.Bias.value (F := Ideal) x0 x1 x2 = val_main_v30 (F := Ideal) x0 x1 x2 := by
  funext k
  obtain ⟨b, i, j, rfl⟩ := ix3_parts k
  obtain ⟨h0, h1⟩ := Cert.KernelIdeal.Bias.toInt_bucket_range (h (ix2 b (⟨min (i.val + 1) 2047, by omega⟩ : Fin 2048))) (h (ix2 b j))
  have hq := Cert.KernelIdeal.Bias.toNat_lt h0 h1
  rw [val_main_v30_apply, position, lookups x0 h x1 b i j ⟨_, Nat.lt_trans hq (by decide)⟩ rfl]
  refine Eq.trans ?_ (add_comm (G := EReal) _ _)
  refine congrArg₂ (HAdd.hAdd : EReal → EReal → EReal) (congrArg x1 (congrArg ix1 (Fin.ext ?_))) rfl
  show BitVec.toNat (Cert.KernelIdeal.Bias.lane (Cert.KernelIdeal.Bias.bucket (F := Ideal) (FloatOps.sitofp .f32 (x0 (ix2 b (⟨min (i.val + 1) 2047, _⟩ : Fin 2048))))
    (FloatOps.sitofp .f32 (x0 (ix2 b j))))) % 128 = _
  rw [Cert.KernelIdeal.Bias.bucket_eq (h _) (h _), Cert.KernelIdeal.Bias.lane_eq h0]
  exact Nat.mod_eq_of_lt hq

end Cert.ReferenceIdeal.Bias

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Printed
public import proofs.«01_k».proof.Proof.Value
public import proofs.«01_k».proof.Proof.Reference
public import Idealize.ShloMosaic.Lib.Claim
public import Idealize.ShloMosaic.Lib.Quiescent

@[expose] public section

noncomputable section

namespace Cert.Proof

open Idealize.ShloMosaic Idealize.SL.Sem

/-- The precondition's one shape condition. -/
theorem preFacts : Cert.Pre_nonnegative.Facts := ⟨by decide⟩

/-- The reference's frame: its arguments end unchanged and every semaphore is at zero. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The precondition says that no time is negative. -/
theorem times_nonneg (x0 : IVec Cert.Pre_nonnegative.S4x2048 32) (x1 : FVec Ideal Cert.Pre_nonnegative.S129 .f32)
    (x2 : FVec Ideal Cert.Pre_nonnegative.S4095 .f32) [Cert.Pre_nonnegative.Facts]
    (h : Cert.Pre_nonnegative.fn (F := Ideal) x0 x1 x2 = fun _ => 1#1) (k : Cert.Pre_nonnegative.S4x2048.Idx) : 0 ≤ (x0 k).toInt := by
  have hk : IntOp.cmpi .sge (x0 k) 0#32 = 1#1 := congrFun h k
  rw [WordCmp.cmpi_sge_eq, WordCmp.ofBool_decide_eq_one_iff] at hk
  exact hk

/-- For times that are not negative the kernel and the reference end with the same result at the extended reals. -/
theorem algebraic : Cert.algebraic_KernelIdeal_ReferenceIdeal_pre_nonnegative (hKernelIdeal := Cert.KernelIdeal.Gen.facts)
    (hReferenceIdeal := Cert.ReferenceIdeal.Gen.facts) (hPre_nonnegative := preFacts) := by
  haveI := preFacts
  pair_intro
  · run_from Cert.KernelIdeal.Bias.run_main m g
  · run_from Cert.ReferenceIdeal.Value.run m' g'
    rw [Cert.ReferenceIdeal.Read.val_main_v30_eq, (hagree c).1, (hagree c).2.1, (hagree c).2.2]
    refine Eq.trans ?_ (Cert.KernelIdeal.Bias.final m c).symm
    exact (Cert.ReferenceIdeal.Bias.value_eq _ (times_nonneg _ _ _ (hpre c)) _ _).symm

/-- Every claim of the certificate. -/
theorem claim : Cert.Claim :=
  ⟨Cert.Kernel.Gen.facts, Cert.KernelIdeal.Gen.facts, Cert.ReferenceIdeal.Gen.facts, preFacts,
    fun m g _ => Cert.Kernel.Bias.frame m g, fun m g _ => Cert.KernelIdeal.Bias.frame m g, fun m g _ => Cert.KernelIdeal.Bias.frame m g,
    fun m g _ => referenceFrame m g, fun m g _ => referenceFrame m g, trivial, algebraic⟩

end Cert.Proof

end
